-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idxs_pre [hPre_idxs_pre : Cert.Pre_idxs_pre.Facts] (m : (ℓ : Loc Cert.KernelIdeal.nD Cert.KernelIdeal.τ Cert.KernelIdeal.sig) → Buf (Elt Ideal) ℓ) : Prop :=
  ∀ c : Dev Cert.KernelIdeal.nD,
    (Cert.Pre_idxs_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idxs_pre [hPre_idxs_pre : Cert.Pre_idxs_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idxs_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_idxs_pre [hKernelIdeal : Cert.KernelIdeal.Facts] [hPre_idxs_pre : Cert.Pre_idxs_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idxs_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_idxs_pre [hReferenceIdeal : Cert.ReferenceIdeal.Facts] [hPre_idxs_pre : Cert.Pre_idxs_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idxs_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_idxs_pre [hKernelIdeal : Cert.KernelIdeal.Facts] [hReferenceIdeal : Cert.ReferenceIdeal.Facts] [hPre_idxs_pre : Cert.Pre_idxs_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idxs_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_idxs_pre : Cert.Pre_idxs_pre.Facts),
    quiescent_Kernel (hKernel := hKernel)
    ∧ quiescent_KernelIdeal (hKernelIdeal := hKernelIdeal)
    ∧ quiescent_KernelIdeal_pre_idxs_pre (hKernelIdeal := hKernelIdeal) (hPre_idxs_pre := hPre_idxs_pre)
    ∧ quiescent_ReferenceIdeal (hReferenceIdeal := hReferenceIdeal)
    ∧ quiescent_ReferenceIdeal_pre_idxs_pre (hReferenceIdeal := hReferenceIdeal) (hPre_idxs_pre := hPre_idxs_pre)
    ∧ preserves_Kernel_KernelIdeal
    ∧ algebraic_KernelIdeal_ReferenceIdeal_pre_idxs_pre (hKernelIdeal := hKernelIdeal) (hReferenceIdeal := hReferenceIdeal) (hPre_idxs_pre := hPre_idxs_pre)
-- ==== Pre_idxs_pre.lean ====
abbrev S100000x128 : Shape := ⟨2, ![100000, 128]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  reducesTo_S50000_S_d0 : S50000.ReducesTo [0] S_
  h_S_ : 0 < S_.numel

variable [Facts]

def fn {F : FTy → Type} [FloatOps F] (main_arg0 : FVec F S100000x128 .f32) (main_arg1 : IVec S50000 32) (main_arg2 : FVec F S50000x128 .f32) (main_arg3 : FVec F S128x128 .f32) (main_arg4 : FVec F S128 .f32) (main_arg5 : FVec F S128x128 .f32) (main_arg6 : FVec F S128 .f32) : IVec S_ 1 :=
  let main_v0 : IVec S50000 32 := iotaInDim S50000 32 0
  let main_v1 : IVec S50000 1 := cmpi .eq main_arg1 main_v0
  let main_c : IVec S_ 1 := constantI S_ 1 1#1
  let main_v2 : IVec S_ 1 := (fun x v => Host.reduce IntOp.andi x v reducesTo_S50000_S_d0 h_S_) main_v1 main_c
  main_v2
-- ==== Kernel.lean ====
abbrev S100000x128 : Shape := ⟨2, ![100000, 128]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S1x128 : Shape := ⟨2, ![1, 128]⟩
abbrev S20000x128 : Shape := ⟨2, ![20000, 128]⟩

abbrev nBuf : Space → Nat
  | .hbm => 10
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S50000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S20000x128, .f32⟩
  | .local _ .vmem, ⟨3, _⟩ => ⟨S20000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S20000x128, .f32⟩
  | .local _ .vmem, ⟨8, _⟩ => ⟨S20000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .eq arg0 c2_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sgt arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x128 : Shape := ⟨2, ![100000, 128]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S1, .i32⟩
  | .hbm, ⟨16, _⟩ => ⟨S_, .i32⟩
  | .hbm, ⟨17, _⟩ => ⟨S50000x1, .i32⟩
  | .hbm, ⟨18, _⟩ => ⟨S50000x1, .i1⟩
  | .hbm, ⟨19, _⟩ => ⟨S1x1, .i32⟩
  | .hbm, ⟨20, _⟩ => ⟨S50000x1, .i32⟩
  | .hbm, ⟨21, _⟩ => ⟨S50000x1, .i1⟩
  | .hbm, ⟨22, _⟩ => ⟨S50000x1, .i1⟩
  | .hbm, ⟨23, _⟩ => ⟨S_, .i1⟩
  | .hbm, ⟨24, _⟩ => ⟨S50000, .i1⟩
  | .hbm, ⟨25, _⟩ => ⟨S50000x128, .f32⟩
  | .hbm, ⟨26, _⟩ => ⟨S50000x128, .i1⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S128x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S50000, .i32⟩
  | .hbm, ⟨43, _⟩ => ⟨S50000, .i1⟩
  | .hbm, ⟨44, _⟩ => ⟨S_, .i32⟩
  | .hbm, ⟨45, _⟩ => ⟨S50000, .i32⟩
  | .hbm, ⟨46, _⟩ => ⟨S50000, .i32⟩
  | .hbm, ⟨47, _⟩ => ⟨S50000, .i32⟩
  | .hbm, ⟨48, _⟩ => ⟨S50000x1, .i32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c : Ref sig .tc := ⟨.hbm, 41, rfl⟩
abbrev main_v12 : Ref sig .tc := ⟨.hbm, 42, rfl⟩
abbrev main_v13 : Ref sig .tc := ⟨.hbm, 43, rfl⟩
abbrev main_c_0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]
-- ==== Proof.Body.lean ====
/-
  The kernel body, run once for any float values: what it leaves in the output's staging buffer, as a function
  `merged` of the grid point and of what the five input buffers hold.
-/
module

public import proofs.«01_k».proof.Proof.Gen.KernelIdeal.Frame
public import proofs.«01_k».proof.Proof.Gen.KernelIdeal.Skeleton
public import Idealize.ShloMosaic.Lib.Pipeline.Value

@[expose] public section

noncomputable section

namespace Cert.Proof.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the output block at grid point `i`, from the block of `h`, the block of `sub_h`, the two
    weights and the bias: the merged rows at points 0 and 1; at point 2 the merged rows above row 10000 of the block
    and `h`'s below; `h`'s block at points 3 and 4. -/
def merged (i : grid0.Coords) (h sub : Vec F S20000x128 .f32) (w1 w2 : Vec F S128x128 .f32) (b : Vec F S1x128 .f32) :
    Vec F S20000x128 .f32 :=
  if k0_cond1 i = 1#1 then k0_pay1 h w1 sub w2 b
  else if k0_cond2 i = 1#1 then k0_pay2 h w1 sub w2 b h
  else h

/-- Exactly one of the body's three conditions holds at a grid point. -/
theorem one_case (i : grid0.Coords) :
    (k0_cond1 i = 1#1 ∧ ¬k0_cond2 i = 1#1 ∧ ¬k0_cond3 i = 1#1)
    ∨ (¬k0_cond1 i = 1#1 ∧ k0_cond2 i = 1#1 ∧ ¬k0_cond3 i = 1#1)
    ∨ (¬k0_cond1 i = 1#1 ∧ ¬k0_cond2 i = 1#1 ∧ k0_cond3 i = 1#1) := by
  revert i; decide

/-- The accesses' literal offsets are zero. -/
theorem off_zero : (![0, 0] : Fin 2 → Nat) = fun _ => 0 := funext fun a => by fin_cases a <;> rfl

/-- A whole load of a block, of a weight and of the bias reads the contents. -/
theorem ld_block (x : Vec F S20000x128 .f32) :
    View.ld x (Rect.unit (s := S20000x128) ![0, 0] (no_index S20000x128.size) inb_S20000x128_S20000x128_0_0) = x :=
  View.ld_unit_zero (S := S20000x128) off_zero _ x
theorem ld_weight (x : Vec F S128x128 .f32) :
    View.ld x (Rect.unit (s := S128x128) ![0, 0] (no_index S128x128.size) inb_S128x128_S128x128_0_0) = x :=
  View.ld_unit_zero (S := S128x128) off_zero _ x
theorem ld_bias (x : Vec F S1x128 .f32) :
    View.ld x (Rect.unit (s := S1x128) ![0, 0] (no_index S1x128.size) inb_S1x128_S1x128_0_0) = x :=
  View.ld_unit_zero (S := S1x128) off_zero _ x

/-- One whole store over a block leaves its payload. -/
theorem canon_block (p : Vec F S20000x128 .f32) :
    View.canon [(⟨Rect.unit (s := S20000x128) ![0, 0] S20000x128.size inb_S20000x128_S20000x128_0_0, p⟩ :
      View.Piece (Elt F) S20000x128 .f32)] = p :=
  View.canon_unit_zero (S := S20000x128) off_zero _ p

theorem cover_block (p : Vec F S20000x128 .f32) (y : S20000x128.Idx) :
    ∃ pc ∈ ([⟨Rect.unit (s := S20000x128) ![0, 0] S20000x128.size inb_S20000x128_S20000x128_0_0, p⟩] :
      List (View.Piece (Elt F) S20000x128 .f32)), y ∈ pc.1.set :=
  View.cover_of_tiled _ S20000x128.size (by rfl) y

/-- THE BODY'S TRIPLE: from the five input buffers at contents `h`, `sub`, `w1`, `w2`, `b` and the output buffer at
    anything, the body runs to its return with the inputs as they were and the output at `merged` of them. -/
theorem body_runs (c : Dev nD) (i : grid0.Coords)
    (m0 : Memref sig .tc .vmem S20000x128 .f32) (h0 : m0.IsWhole) (m1 : Memref sig .tc .vmem S20000x128 .f32) (h1 : m1.IsWhole)
    (m2 : Memref sig .tc .vmem S128x128 .f32) (h2 : m2.IsWhole) (m3 : Memref sig .tc .vmem S128x128 .f32) (h3 : m3.IsWhole)
    (m4 : Memref sig .tc .vmem S1x128 .f32) (h4 : m4.IsWhole) (m5 : Memref sig .tc .vmem S20000x128 .f32) (h5 : m5.IsWhole)
    (h sub : Vec F S20000x128 .f32) (w1 w2 : Vec F S128x128 .f32) (b : Vec F S1x128 .f32) (K : PUnit → sProp 𝕄) :
    iprop(owns (c : Thread nD τ) m0 fullShare h ∗ owns (c : Thread nD τ) m1 fullShare sub
        ∗ owns (c : Thread nD τ) m2 fullShare w1 ∗ owns (c : Thread nD τ) m3 fullShare w2
        ∗ owns (c : Thread nD τ) m4 fullShare b ∗ (∃ d, owns (c : Thread nD τ) m5 fullShare d)
        ∗ (iprop(owns (c : Thread nD τ) m0 fullShare h ∗ owns (c : Thread nD τ) m1 fullShare sub
            ∗ owns (c : Thread nD τ) m2 fullShare w1 ∗ owns (c : Thread nD τ) m3 fullShare w2
            ∗ owns (c : Thread nD τ) m4 fullShare b ∗ owns (c : Thread nD τ) m5 fullShare (merged i h sub w1 w2 b)) -∗ K ⟨⟩))
      ⊢ wp frame (wpE (defs₀ (F := F)) Variants.none c none) Set.univ
          (cc0__unpool_kernel i m0 h0 m1 h1 m2 h2 m3 h3 m4 h4 m5 h5) K := by
  simp only [cc0__unpool_kernel_eq_skeleton]; unfold cc0__unpool_kernel_skel
  unfold owns merged
  rcases one_case i with ⟨c1, c2, c3⟩ | ⟨c1, c2, c3⟩ | ⟨c1, c2, c3⟩ <;>
    simp only [c1, c2, c3, if_true, if_false, dite_true, dite_false, not_false_eq_true] <;>
    (iintro ⟨⟨%f0, %e0, H0⟩, ⟨%f1, %e1, H1⟩, ⟨%f2, %e2, H2⟩, ⟨%f3, %e3, H3⟩, ⟨%f4, %e4, H4⟩, ⟨%d5, %f5, -, H5⟩, Hk⟩
     subst e0 e1 e2 e3 e4
     sl_exec
     sl_step
     iapply Hk
     isplitl [H0]
     · iexists f0; isplitr; · ipureintro; rfl
       iexact H0
     isplitl [H1]
     · iexists f1; isplitr; · ipureintro; rfl
       iexact H1
     isplitl [H2]
     · iexists f2; isplitr; · ipureintro; rfl
       iexact H2
     isplitl [H3]
     · iexists f3; isplitr; · ipureintro; rfl
       iexact H3
     isplitl [H4]
     · iexists f4; isplitr; · ipureintro; rfl
       iexact H4
     iexists _; isplitr
     swap; · iexact H5
     ipureintro
     refine (View.read_writes_eq_canon _ _ _ (cover_block _)).trans ((canon_block _).trans ?_)
     simp only [View.readAt_eq_ld, ld_block, ld_weight, ld_bias])

end Cert.Proof.Unpool

end
-- ==== Proof.Run.lean ====
/-
  The pipeline's proof data, the body at a grid point, and the frame at any float values.

  Window 1 streams `sub_h` in blocks of 20000 rows, and its last block holds 10000 rows only: the rest of the staging
  buffer holds words nothing names, so every statement carries them as an arbitrary filler `d`. The frame says nothing
  of the output, so it forgets the output window and holds for any float values; the exact result at the ideal values,
  where the filler is shown not to matter, is in Exact.lean.
-/
module

public import proofs.«01_k».proof.Proof.Body

@[expose] public section

noncomputable section

namespace Cert.Proof.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The block of `sub_h` at point `t` as the staging buffer holds it: its rows inside the array, `d` on the others. -/
def subBlock (c : Dev nD) (t : Fin cfg0.N) (d : S20000x128.Idx → Elt F .f32) : Vec F S20000x128 .f32 :=
  win0_1.fill (grid0.coords t) d (iblk m c 1 t)

/-- The output block at point `t`, when the tail of the buffer of `sub_h` holds `d`. -/
def outBlock (c : Dev nD) (t : Fin cfg0.N) (d : S20000x128.Idx → Elt F .f32) : Vec F S20000x128 .f32 :=
  merged (grid0.coords t) (iblk m c 0 t) (subBlock m c t d) (iblk m c 2 t) (iblk m c 3 t) (iblk m c 4 t)

/-- A filler for the rows of the staging buffer past the end of `sub_h`: zeros. -/
def zeros : S20000x128.Idx → Elt F .f32 := fun _ => Scalar.ofBits .f32 0#32

/-- The proof data on core `c`: the arrays as the region finds them; after the body each input's buffer at its block
    and the output's at `outBlock`; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => subBlock m c t zeros
    | ⟨2, _⟩ => iblk m c 2 t
    | ⟨3, _⟩ => iblk m c 3 t
    | ⟨4, _⟩ => iblk m c 4 t
    | ⟨5, _⟩ => outBlock m c t zeros
  Φ _ := Pipeline.ΦA spec0 c
  q _ := fullShare
  owed _ := 0

theorem A_eq (c : Dev nD) (w : Fin cfg0.W) : (dats m 0 c).A w = V m c (Pipeline.arrRef spec0 w) := by
  dsimp only [dats]

theorem after_h (c : Dev nD) (t : Fin cfg0.N) : (dats m 0 c).after 0 t = iblk m c 0 t := by dsimp only [dats]
theorem after_sub (c : Dev nD) (t : Fin cfg0.N) : (dats m 0 c).after 1 t = subBlock m c t zeros := by dsimp only [dats]
theorem after_w1 (c : Dev nD) (t : Fin cfg0.N) : (dats m 0 c).after 2 t = iblk m c 2 t := by dsimp only [dats]
theorem after_w2 (c : Dev nD) (t : Fin cfg0.N) : (dats m 0 c).after 3 t = iblk m c 3 t := by dsimp only [dats]
theorem after_bias (c : Dev nD) (t : Fin cfg0.N) : (dats m 0 c).after 4 t = iblk m c 4 t := by dsimp only [dats]
theorem after_out (c : Dev nD) (t : Fin cfg0.N) : (dats m 0 c).after 5 t = outBlock m c t zeros := by dsimp only [dats]

/-! ## What the body finds -/

theorem before_h (c : Dev nD) (t : Fin cfg0.N) (d) : (dats m 0 c).before 0 t d = iblk m c 0 t :=
  before0_0_of m (dats m 0 c) (A_eq m c 0) (after_h m c) t d
theorem before_w1 (c : Dev nD) (t : Fin cfg0.N) (d) : (dats m 0 c).before 2 t d = iblk m c 2 t :=
  before0_2_of m (dats m 0 c) (A_eq m c 2) (after_w1 m c) t d
theorem before_w2 (c : Dev nD) (t : Fin cfg0.N) (d) : (dats m 0 c).before 3 t d = iblk m c 3 t :=
  before0_3_of m (dats m 0 c) (A_eq m c 3) (after_w2 m c) t d
theorem before_bias (c : Dev nD) (t : Fin cfg0.N) (d) : (dats m 0 c).before 4 t d = iblk m c 4 t :=
  before0_4_of m (dats m 0 c) (A_eq m c 4) (after_bias m c) t d

/-- The rows of `sub_h`'s buffer inside the array are the block, whatever the filler. -/
theorem cut_subBlock (c : Dev nD) (t : Fin cfg0.N) (d) :
    win0_1.cut (grid0.coords t) (subBlock m c t d) = iblk m c 1 t := win0_1.cut_fill _ _ _

/-- The buffer of `sub_h` holds its block filled out with something, fetched at the point or kept from the point
    before (points 3 and 4 keep block 2). -/
theorem before_sub (c : Dev nD) (t : Fin cfg0.N) (d) : (dats m 0 c).before 1 t d = subBlock m c t d := by
  refine ((dats m 0 c).before_in_eq_fetched 1 rfl (fun _ => rfl) ?_ ?_ t d).trans ?_
  · intro t t' e
    exact congrArg (fun ix => fun a => Pipeline.Clip.of (ix a) (S20000x128.size a) (S50000x128.size a)) e
  · intro t
    rw [after_sub]; refine (cut_subBlock m c t zeros).trans ?_
    unfold Dat.blockOf iblk; rw [A_eq]; try rfl
  · unfold Dat.fetched Dat.blockOf subBlock iblk; rw [A_eq]; try rfl

/-! ## The body at a point -/

/-- At point `t` the body is handed the invariant, what the core owes and the six buffers. -/
def pointPre (c : Dev nD) (t : Fin cfg0.N) : sProp 𝕄 :=
  iprop((dats m 0 c).Φ t.castSucc ∗ (dats m 0 c).owesAt () t.castSucc
    ∗ owns (c : Thread nD τ) (st0_0 t) fullShare (iblk m c 0 t)
    ∗ (∃ d, owns (c : Thread nD τ) (st0_1 t) fullShare (subBlock m c t d))
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ d, owns (c : Thread nD τ) (st0_5 t) fullShare d))

/-- It hands them back with the output at `outBlock`, the filler the one it found. -/
def pointPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ (∃ d, owns (c : Thread nD τ) (st0_1 t) fullShare (subBlock m c t d)
        ∗ owns (c : Thread nD τ) (st0_5 t) fullShare (outBlock m c t d))
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t))

/-- The body at any point, off its triple. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  rw [show (dats m 0 c).Φ t.succ = (dats m 0 c).Φ t.castSucc from rfl,
    show (dats m 0 c).owesAt () t.succ = (dats m 0 c).owesAt () t.castSucc from rfl]
  iintro ⟨HΦ, Ho, H0, ⟨%d, H1⟩, H2, H3, H4, H5⟩
  iapply (body_runs c (grid0.coords t) _ _ _ _ _ _ _ _ _ _ _ _ (iblk m c 0 t) (subBlock m c t d) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1 H5]
  · iexists d
    isplitl [H1]; · iexact H1
    iexact H5
  isplitl [H2]; · iexact H2
  isplitl [H3]; · iexact H3
  iexact H4

/-- The body table's row at a point's slots is the body there. -/
theorem body_row (t : Fin cfg0.N) :
    defs₀ (F := F) .tc cfg0.body (cfg0.bodyArgs t (cfg0.slots t)) = bodyAt0 t := by
  unfold defs₀; rw [Defs.onTc_tc]

/-- The loose obligation on `sub_h`'s window: its buffer handed back with any filler. -/
theorem sub_back (c : Dev nD) (t : Fin cfg0.N) (d : S20000x128.Idx → Elt F .f32) :
    subBlock m c t d = win0_1.fill (grid0.coords t) d (win0_1.cut (grid0.coords t) ((dats m 0 c).after 1 t)) := by
  rw [after_sub]; exact congrArg (win0_1.fill (grid0.coords t) d) (cut_subBlock m c t zeros).symm

/-! ## The frame, the output forgotten -/

/-- Only the output window is forgotten. -/
def forgetOut : Fin 6 → Bool := ![false, false, false, false, false, true]

/-- What the region hands the body is `pointPre`. -/
theorem obligation_pre (c : Dev nD) (t : Fin cfg0.N) (X : sProp 𝕄)
    (hX : X ⊢ iprop(∃ d, owns (c : Thread nD τ) (st0_5 t) fullShare d)) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)) ∗ X) ⊢ pointPre m c t := by
  unfold pointPre
  simp only [before_h, before_sub, before_w1, before_w2, before_bias]
  iintro ⟨HΦ, Ho, ⟨%d0, H0⟩, H1, ⟨%d2, H2⟩, ⟨%d3, H3⟩, ⟨%d4, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply hX; iexact H5

/-- What the body leaves meets an obligation that asks `Y` of the output's buffer. -/
theorem obligation_post (c : Dev nD) (t : Fin cfg0.N) (Y : sProp 𝕄)
    (hY : ∀ d, owns (c : Thread nD τ) (st0_5 t) fullShare (outBlock m c t d) ⊢ Y) :
    pointPost m c t ⊢ iprop((dats m 0 c).Φ t.succ ∗ (dats m 0 c).owesAt () t.succ
      ∗ owns (c : Thread nD τ) (st0_0 t) fullShare ((dats m 0 c).after 0 t)
      ∗ (∃ d, owns (c : Thread nD τ) (st0_1 t) fullShare
          (win0_1.fill (grid0.coords t) d (win0_1.cut (grid0.coords t) ((dats m 0 c).after 1 t))))
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t) ∗ Y) := by
  unfold pointPost
  rw [after_h, after_w1, after_w2, after_bias]
  iintro ⟨HΦ, Ho, H0, ⟨%d, H1, H5⟩, H2, H3, H4⟩
  isplitl [HΦ]; · iexact HΦ
  isplitl [Ho]; · iexact Ho
  isplitl [H0]; · iexact H0
  isplitl [H1]; · iexists d; rw [← sub_back]; iexact H1
  isplitl [H2]; · iexact H2
  isplitl [H3]; · iexact H3
  isplitl [H4]; · iexact H4
  iapply (hY d); iexact H5

/-- The body obligation with the output forgotten, at any float values. -/
theorem obligation_forget (c : Dev nD) :
    BodyObligationLoose (dats (F := F) m 0 c) (defs₀ (F := F)) Variants.none () Set.univ forgetOut := fun t => by
  rw [bigSep_W0, bigSep_W0, body_row]
  exact (obligation_pre m c t _ .rfl).trans ((point_runs m c t).trans (wp_mono _ _ _ fun _ =>
    obligation_post m c t _ fun d => show _ ⊢ iprop(∃ X, owns (c : Thread nD τ) (st0_5 t) fullShare X) from by
      iintro H; iexists _; iexact H))

set_option backward.isDefEq.respectTransparency.types false in
/-- The run at any float values, nothing said of the output. -/
theorem run_forget : θ_run defs (onTc (τ := τ) (main (F := F))) (s₀ m ρ)
    (fun r => Pipeline.RDat.FramePost (cfgs 0) (fun c => (dats m 0 c).toRForget forgetOut) (V m) r ∧ r.2.sem = fun _ => 0) :=
  Pipeline.θ_run_frame_forget (Q' := _) cfgs (dats m) (0 : Fin 1) launch0 defs₀ Variants.none forgetOut m ρ main
    (hbody := obligation_forget m) (hshare := fun c => (dats m 0 c).share_full fun _ => rfl)
    (howed := fun _ _ => rfl) (V := V m) (hmain := hmain m Variants.none) (hA := A_eq m) (hΦ := fun _ _ => rfl)

/-- THE FRAME, at any float values: every run ends, the seven arguments as launched and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 1 rfl).trans ((A_eq m c 1).trans (V_main_arg2 m c)),
      (h.1.arr_in c 2 rfl).trans ((A_eq m c 2).trans (V_main_arg3 m c)),
      ((h.1 c).2 main_arg4 (Pipeline.mem_restRefs_of main_arg4 (by decide) (by decide))).trans (V_main_arg4 m c),
      (h.1.arr_in c 3 rfl).trans ((A_eq m c 3).trans (V_main_arg5 m c)),
      ((h.1 c).2 main_arg6 (Pipeline.mem_restRefs_of main_arg6 (by decide) (by decide))).trans (V_main_arg6 m c)⟩, h.2⟩)
    (run_forget m ρ)

end Cert.Proof.Unpool

end
-- ==== Proof.Printed.lean ====
/-
  The kernel's frame at the machine's own floats.

  No operation was rewritten for the ideal reading, so the two printed kernels are one program at any float values:
  their tables of bodies and their mains are equal, and the frame proved of the one is a frame of the other.
-/
module

public import proofs.«01_k».proof.Proof.Run
public import proofs.«01_k».proof.Proof.Gen.Kernel.Frame
public import proofs.«01_k».proof.Defs
public import proofs.«01_k».proof.Proof.Gen.Pre_idxs_pre

@[expose] public section

noncomputable section

namespace Cert.Proof.Unpool

open Idealize.ShloMosaic Idealize.SL.Sem

variable {F : FTy → Type} [FloatOps F]

/-- The two printed body tables are one: the only label runs the same body. -/
theorem bodies_eq : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, ⟨_, _⟩ => rfl

/-- So the two full tables, the pipeline's loop added, are one. -/
theorem defs_eq : Cert.Kernel.defs (F := F) = Cert.KernelIdeal.defs (F := F) :=
  congrArg (Pipeline.defs Cert.KernelIdeal.pcfgs) bodies_eq

/-- And the two mains are one. -/
theorem main_eq : Cert.Kernel.main (F := F) = Cert.KernelIdeal.main (F := F) := rfl

/-- THE KERNEL'S FRAME: the kernel as printed, at the machine's floats, runs to its end without a fault, leaves its
    seven arguments as they were and every counter at zero. -/
theorem kernel_frame : Cert.quiescent_Kernel := fun m g _ => by
  rw [defs_eq, main_eq]
  exact frame_any (F := Bits) m g

/-- The same of the kernel read at the ideal values, with no precondition. -/
theorem ideal_frame : Cert.quiescent_KernelIdeal := fun m g _ => frame_any (F := Ideal) m g

/-- And under the value claim's precondition, which the frame does not use. -/
theorem ideal_frame_pre : Cert.quiescent_KernelIdeal_pre_idxs_pre := fun m g _ => frame_any (F := Ideal) m g

end Cert.Proof.Unpool

end
-- ==== Proof.Rows.lean ====
/-
  The kernel's block at a grid point, read at an index over the extended reals: row `r` of the block at point `t` is
  row `20000 t + r` of `unpooled`, whatever fills the rows of the staging buffer past the end of `sub_h`.
-/
module

public import proofs.«01_k».proof.Proof.Run
public import Idealize.ShloMosaic.PureOps.Ideal
public import Idealize.ShloMosaic.Lib.Pointwise
public import Idealize.ShloMosaic.Lib.Pipeline.ValueKit.Point

@[expose] public section

noncomputable section

namespace Cert.Proof.Unpool

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- What the layer computes: on the first 50000 rows, the rows the indices name, `h · W1ᵀ + sub_h · W2ᵀ + (b1 + b2)`;
    on the others, `h`. -/
def unpooled (h : Vec Ideal S100000x128 .f32) (sub : Vec Ideal S50000x128 .f32) (w1 : Vec Ideal S128x128 .f32)
    (b1 : Vec Ideal S128 .f32) (w2 : Vec Ideal S128x128 .f32) (b2 : Vec Ideal S128 .f32) : Vec Ideal S100000x128 .f32 :=
  fun i => if hr : (i 0).val < 50000 then
      ((∑ k : Fin 128, h (ix2 (i 0) k) * w1 (ix2 (i 1) k))
        + (∑ k : Fin 128, sub (ix2 ⟨(i 0).val, hr⟩ k) * w2 (ix2 (i 1) k)))
        + (b1 (ix1 (i 1)) + b2 (ix1 (i 1)))
    else h i

section Read

variable (h : Vec Ideal S100000x128 .f32) (sub : Vec Ideal S50000x128 .f32) (w1 : Vec Ideal S128x128 .f32)
  (b1 : Vec Ideal S128 .f32) (w2 : Vec Ideal S128x128 .f32) (b2 : Vec Ideal S128 .f32) (R : Fin 100000) (k : Fin 128)

/-- `unpooled` on a merged row. -/
theorem unpooled_of_lt (hlt : R.val < 50000) : unpooled h sub w1 b1 w2 b2 (ix2 R k)
    = ((∑ j : Fin 128, h (ix2 R j) * w1 (ix2 k j)) + (∑ j : Fin 128, sub (ix2 ⟨R.val, hlt⟩ j) * w2 (ix2 k j)))
      + (b1 (ix1 k) + b2 (ix1 k)) := dif_pos hlt

/-- `unpooled` on a row that is kept. -/
theorem unpooled_of_ge (hge : ¬R.val < 50000) : unpooled h sub w1 b1 w2 b2 (ix2 R k) = h (ix2 R k) := dif_neg hge

end Read

/-! ## Where the blocks lie -/

theorem index_h : ∀ t : Fin grid0.N, win0_0.index t = ![t.val, 0] := by decide +kernel
theorem index_sub : ∀ t : Fin grid0.N, win0_1.index t = ![min t.val 2, 0] := by decide +kernel
theorem index_w1 : ∀ t : Fin grid0.N, win0_2.index t = ![0, 0] := by decide +kernel
theorem index_w2 : ∀ t : Fin grid0.N, win0_3.index t = ![0, 0] := by decide +kernel
theorem index_bias : ∀ t : Fin grid0.N, win0_4.index t = ![0, 0] := by decide +kernel
theorem index_out : ∀ t : Fin grid0.N, win0_5.index t = ![t.val, 0] := by decide +kernel

/-- The two biases on core `c`, and the row of their sum the host makes before the launch. -/
abbrev bias1 (c : Dev nD) : Vec Ideal S128 .f32 := m ((c : Thread nD τ).loc main_arg4)
abbrev bias2 (c : Dev nD) : Vec Ideal S128 .f32 := m ((c : Thread nD τ).loc main_arg6)
abbrev biasRow (c : Dev nD) : Vec Ideal S1x128 .f32 := V m c main_v1

/-- The host's row is the reshaped sum of the two biases. -/
theorem biasRow_eq (c : Dev nD) :
    biasRow m c = shapeCast S1x128 (addf (F := Ideal) (φ := .f32) (bias1 m c) (bias2 m c)) shapeCasts_S128_S1x128 := by
  unfold biasRow V
  after_results
  rfl

/-! ## The blocks read at an index -/

theorem h_at (c : Dev nD) (t : Fin cfg0.N) (r : Fin 20000) (k : Fin 128) (R : Fin 100000)
    (hR : R.val = t.val * 20000 + r.val) :
    iblk m c 0 t (ix2 r k) = m ((c : Thread nD τ).loc main_arg0) (ix2 R k) := by
  blk_ext! [iblk, V_main_arg0, index_h t]

theorem w1_at (c : Dev nD) (t : Fin cfg0.N) (r k : Fin 128) :
    iblk m c 2 t (ix2 r k) = m ((c : Thread nD τ).loc main_arg3) (ix2 r k) := by
  blk_ext! [iblk, V_main_arg3, index_w1 t]

theorem w2_at (c : Dev nD) (t : Fin cfg0.N) (r k : Fin 128) :
    iblk m c 3 t (ix2 r k) = m ((c : Thread nD τ).loc main_arg5) (ix2 r k) := by
  blk_ext! [iblk, V_main_arg5, index_w2 t]

theorem bias_at (c : Dev nD) (t : Fin cfg0.N) (k : Fin 128) :
    iblk m c 4 t (ix2 0 k) = bias1 m c (ix1 k) + bias2 m c (ix1 k) := by
  have e : iblk m c 4 t (ix2 0 k) = biasRow m c (ix2 0 k) := by
    blk_ext! [iblk, index_bias t]
  rw [e, biasRow_eq]
  pointwise

/-- A row of `sub_h`'s buffer that lies inside the array is the array's row, whatever the filler. -/
theorem sub_at (c : Dev nD) (t : Fin cfg0.N) (d : S20000x128.Idx → Elt Ideal .f32) (r : Fin 20000) (k : Fin 128)
    (R : Fin 50000) (hR : R.val = t.val * 20000 + r.val) :
    subBlock m c t d (ix2 r k) = m ((c : Thread nD τ).loc main_arg2) (ix2 R k) := by
  have hx : ∀ t : Fin grid0.N, win0_1.xsize (grid0.coords t) = ![min 20000 (50000 - min t.val 2 * 20000), 128] := by
    decide +kernel
  have ht : t.val ≤ 2 := by have := R.isLt; omega
  have hm : win0_1.moved (grid0.coords t) (ix2 r k) = true := (win0_1.moved_iff _ _).2 fun a => by
    rw [hx t]
    match a with
    | ⟨0, _⟩ => show r.val < min 20000 (50000 - min t.val 2 * 20000); have := R.isLt; have := r.isLt; omega
    | ⟨1, _⟩ => exact k.isLt
  unfold subBlock Pipeline.Window.fill
  rw [dif_pos hm]
  have hmin : min t.val 2 = t.val := by omega
  blk_ext! [iblk, V_main_arg2, index_sub t, hmin]

/-! ## The payloads at an index -/

theorem pay1_at (h sub : Vec Ideal S20000x128 .f32) (w1 w2 : Vec Ideal S128x128 .f32) (b : Vec Ideal S1x128 .f32)
    (r : Fin 20000) (k : Fin 128) : k0_pay1 h w1 sub w2 b (ix2 r k)
      = ((∑ j : Fin 128, h (ix2 r j) * w1 (ix2 k j)) + (∑ j : Fin 128, sub (ix2 r j) * w2 (ix2 k j))) + b (ix2 0 k) := by
  pointwise [k0_pay1]

theorem pay2_at (h sub h' : Vec Ideal S20000x128 .f32) (w1 w2 : Vec Ideal S128x128 .f32) (b : Vec Ideal S1x128 .f32)
    (r : Fin 20000) (k : Fin 128) : k0_pay2 h w1 sub w2 b h' (ix2 r k)
      = if r.val < 10000 then k0_pay1 h w1 sub w2 b (ix2 r k) else h' (ix2 r k) := by
  pointwise [k0_pay1, k0_pay2]
  rw [WordCmp.cmpi_slt_ofNat (by have := r.isLt; norm_num; omega) (by norm_num), WordCmp.select_decide]

/-! ## The block at a point -/

theorem cond1_iff : ∀ t : Fin grid0.N, k0_cond1 (grid0.coords t) = 1#1 ↔ t.val < 2 := by decide +kernel
theorem cond2_iff : ∀ t : Fin grid0.N, k0_cond2 (grid0.coords t) = 1#1 ↔ t.val = 2 := by decide +kernel

/-- `unpooled` of the argument arrays on core `c`. -/
abbrev result (c : Dev nD) : Vec Ideal S100000x128 .f32 :=
  unpooled (m ((c : Thread nD τ).loc main_arg0)) (m ((c : Thread nD τ).loc main_arg2))
    (m ((c : Thread nD τ).loc main_arg3)) (bias1 m c) (m ((c : Thread nD τ).loc main_arg5)) (bias2 m c)

/-- A row of the merged payload whose row of the array lies in the first 50000 is that row of `unpooled`. -/
theorem pay1_row (c : Dev nD) (t : Fin cfg0.N) (d : S20000x128.Idx → Elt Ideal .f32) (r : Fin 20000) (k : Fin 128)
    (R : Fin 100000) (hR : R.val = t.val * 20000 + r.val) (hlt : R.val < 50000) :
    k0_pay1 (iblk m c 0 t) (iblk m c 2 t) (subBlock m c t d) (iblk m c 3 t) (iblk m c 4 t) (ix2 r k)
      = result m c (ix2 R k) := by
  rw [pay1_at, bias_at]
  simp only [h_at m c t r _ R hR, w1_at, w2_at, sub_at m c t d r _ ⟨R.val, hlt⟩ hR]
  exact (unpooled_of_lt _ _ _ _ _ _ R k hlt).symm

/-- THE BLOCK: row `r` of what the body leaves at point `t` is row `20000 t + r` of `unpooled`, whatever the filler. -/
theorem outBlock_at (c : Dev nD) (t : Fin cfg0.N) (d : S20000x128.Idx → Elt Ideal .f32) (r : Fin 20000) (k : Fin 128)
    (R : Fin 100000) (hR : R.val = t.val * 20000 + r.val) : outBlock m c t d (ix2 r k) = result m c (ix2 R k) := by
  have hr := r.isLt
  have keep (h : ¬R.val < 50000) : iblk m c 0 t (ix2 r k) = result m c (ix2 R k) := by
    rw [h_at m c t r k R hR]; exact (unpooled_of_ge _ _ _ _ _ _ R k h).symm
  unfold outBlock merged
  by_cases h1 : t.val < 2
  · rw [if_pos ((cond1_iff t).2 h1)]
    exact pay1_row m c t d r k R hR (by omega)
  rw [if_neg fun h => h1 ((cond1_iff t).1 h)]
  by_cases h2 : t.val = 2
  · rw [if_pos ((cond2_iff t).2 h2), pay2_at]
    by_cases h3 : r.val < 10000
    · rw [if_pos h3]; exact pay1_row m c t d r k R hR (by omega)
    · rw [if_neg h3]; exact keep (by omega)
  · rw [if_neg fun h => h2 ((cond2_iff t).1 h)]
    exact keep (by omega)

/-- So the block does not depend on the filler. -/
theorem outBlock_filler (c : Dev nD) (t : Fin cfg0.N) (d d' : S20000x128.Idx → Elt Ideal .f32) :
    outBlock m c t d = outBlock m c t d' := by
  funext y
  have ht : t.val < 5 := t.isLt
  have hy : (y 0).val < 20000 := (y 0).isLt
  rw [eq_ix2 y]
  exact (outBlock_at m c t d (y 0) (y 1) ⟨t.val * 20000 + (y 0).val, by omega⟩ rfl).trans
    (outBlock_at m c t d' (y 0) (y 1) _ rfl).symm

end Cert.Proof.Unpool

end
-- ==== Proof.Exact.lean ====
/-
  The kernel's run at the ideal values: it ends with the result array at `unpooled` of the arguments.
-/
module

public import proofs.«01_k».proof.Proof.Rows

@[expose] public section

noncomputable section

namespace Cert.Proof.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable (m : (ℓ : Loc nD τ sig) → Buf (Elt Ideal) ℓ) (ρ : Dev nD → PrngReg)

/-- The output's buffer is stored into at every point. -/
theorem never_idle : ∀ t : Fin grid0.N, idle0 5 (grid0.coords t) = false := by decide +kernel

/-- The body obligation with the output kept: at the ideal values the block left is the data's, whatever the filler. -/
theorem obligation_exact (c : Dev nD) :
    BodyObligationLoose (dats (F := Ideal) m 0 c) (defs₀ (F := Ideal)) Variants.none () Set.univ := fun t => by
  rw [bigSep_W0, bigSep_W0, body_row]
  refine (obligation_pre m c t iprop(∃ d, owns (c : Thread nD τ) (st0_5 t) fullShare ((dats m 0 c).before 5 t d)) ?_).trans
    ((point_runs m c t).trans (wp_mono _ _ _ fun _ => obligation_post m c t _ fun d => ?_))
  · iintro ⟨%d, H⟩; iexists _; iexact H
  · rw [outBlock_filler m c t d zeros, ← after_out]
    rw [show cfg0.idle 5 (cfg0.grid.coords t) = false from never_idle t]

/-- The output's blocks tile the array, so it ends at `unpooled` of the arguments. -/
theorem out_array (c : Dev nD) : (dats m 0 c).arrAt 5 cfg0.N = result m c := by
  refine (dats m 0 c).arrAt_eq_of_covers 5 _ (by decide +kernel) fun t hf y => ?_
  blk_simp
  rw [after_out]
  have ht : t.val < 5 := t.isLt
  have hy : (y 0).val < 20000 := (y 0).isLt
  have e : (win0_5.blk t).view.emb y = ix2 (⟨t.val * 20000 + (y 0).val, by omega⟩ : Fin 100000) (y 1) := by
    blk_ext [index_out t]
  rw [e]
  exact (congrArg (outBlock m c t zeros) (eq_ix2 (n0 := 20000) (n1 := 128) y)).trans (outBlock_at m c t zeros (y 0) (y 1) _ rfl)

set_option backward.isDefEq.respectTransparency.types false in
/-- The run at the ideal values, every buffer named. -/
theorem run_exact : θ_run defs (onTc (τ := τ) (main (F := Ideal))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := obligation_exact m) (hshare := fun c => (dats m 0 c).share_full fun _ => rfl)
    (howed := fun _ _ => rfl) (V := V m) (hmain := hmain m Variants.none) (hA := A_eq m) (hΦ := fun _ _ => rfl)

/-- THE KERNEL'S VALUE: every run at the ideal values ends with the result array at `unpooled` of the arguments and the
    arguments as they were. -/
theorem kernel_value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1.out_eq c 5).trans (out_array m c),
      (h.1.in_eq c 0 rfl).trans ((A_eq m c 0).trans (V_main_arg0 m c)),
      (h.1.rest_eq c main_arg1 (Pipeline.mem_restRefs_of main_arg1 (by decide) (by decide))).trans (V_main_arg1 m c),
      (h.1.in_eq c 1 rfl).trans ((A_eq m c 1).trans (V_main_arg2 m c)),
      (h.1.in_eq c 2 rfl).trans ((A_eq m c 2).trans (V_main_arg3 m c)),
      (h.1.rest_eq c main_arg4 (Pipeline.mem_restRefs_of main_arg4 (by decide) (by decide))).trans (V_main_arg4 m c),
      (h.1.in_eq c 3 rfl).trans ((A_eq m c 3).trans (V_main_arg5 m c)),
      (h.1.rest_eq c main_arg6 (Pipeline.mem_restRefs_of main_arg6 (by decide) (by decide))).trans (V_main_arg6 m c)⟩)
    (run_exact m ρ)

end Cert.Proof.Unpool

end
-- ==== Proof.Moves.lean ====
/-
  The reference's gather and scatter of rows, and the words they are addressed by, when the index array holds
  0, 1, 2, …: the gather takes the first 50000 rows, and the scatter puts update row `r` at row `r`.
-/
module

public import proofs.«01_k».proof.Proof.Gen.ReferenceIdeal
public import proofs.«01_k».proof.Proof.Gen.Pre_idxs_pre
public import Idealize.ShloMosaic.Lib.Pointwise
public import Idealize.ShloMosaic.Lib.Routing.OpsSet
public import Idealize.ShloMosaic.PureOps.Ideal

@[expose] public section

noncomputable section

namespace Cert.Proof.Unpool

open Cert.ReferenceIdeal Cert.ReferenceIdeal.Gen
open Idealize.ShloMosaic Idealize.ShloMosaic.Tactic

/-! ## One-bit words -/

/-- A fold of bits by «and» from 1 is 1 exactly when every bit is. -/
theorem fold_and_iff {ι : Type} [DecidableEq ι] (s : Finset ι) (p : ι → BitVec 1) :
    s.fold IntOp.andi 1#1 p = 1#1 ↔ ∀ x ∈ s, p x = 1#1 := by
  have both : ∀ a b : BitVec 1, IntOp.andi a b = 1#1 ↔ a = 1#1 ∧ b = 1#1 := by decide
  induction s using Finset.induction_on with
  | empty => simp
  | insert a s ha ih => simp only [Finset.fold_insert ha, both, ih, Finset.forall_mem_insert]

/-! ## The index words -/

/-- The precondition on the index array: every entry is the word of its own position. -/
def Counts (idx : IVec S50000 32) : Prop := ∀ i : Fin 50000, idx (ix1 i) = BitVec.ofNat 32 i.val

/-- The printed precondition says exactly that much. -/
theorem counts_of_pre (h : Vec Ideal S100000x128 .f32) (idx : IVec S50000 32) (sub : Vec Ideal S50000x128 .f32)
    (w1 : Vec Ideal S128x128 .f32) (b1 : Vec Ideal S128 .f32) (w2 : Vec Ideal S128x128 .f32) (b2 : Vec Ideal S128 .f32)
    (e : Cert.Pre_idxs_pre.fn (F := Ideal) h idx sub w1 b1 w2 b2 = fun _ => 1#1) : Counts idx := fun i => by
  have e0 := congrFun e (Shape.Idx.first Cert.Pre_idxs_pre.Facts.h_S_)
  unfold Cert.Pre_idxs_pre.fn at e0
  beta_reduce at e0
  rw [Host.reduce_eq_fold, Shape.ReducesTo.fold_fiber_r1_a0] at e0
  have := (fold_and_iff _ _).1 e0 i (Finset.mem_univ i)
  have hb : BitVec.ofBool (decide (idx (ix1 i) = BitVec.ofNat 32 i.val)) = 1#1 := by
    rw [← WordCmp.cmpi_eq_eq]; exact this
  by_contra hne
  rw [decide_eq_false hne] at hb
  exact absurd hb (by decide)

/-- The words the rows are addressed by: an index counted from the end where it is negative, as a column. -/
abbrev rowWords (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 100000#32))) idx)

/-- A counting index is never negative, so its word is kept. -/
theorem rowWords_at {idx : IVec S50000 32} (hc : Counts idx) (i : Fin 50000) :
    rowWords idx (ix2 i (0 : Fin 1)) = BitVec.ofNat 32 i.val := by
  have hi := i.isLt
  pointwise [rowWords]
  rw [hc i, WordCmp.cmpi_slt_ofNat (by omega) (by norm_num), WordCmp.select_decide]
  simp

/-- Whether a word names a row of the array, the reference's test. -/
abbrev inRange (w : IVec S50000x1 32) : IVec S50000 1 :=
  Host.reduce IntOp.andi
    (andi (cmpi .sge w (broadcastInDim S50000x1 ![] bcast_S_S50000x1 (constantI S_ 32 0#32)))
      (cmpi .sle w (broadcastInDim S50000x1 ![0, 1] bcast_S1x1_S50000x1_0_1
        (broadcastInDim S1x1 ![1] bcast_S1_S1x1_1 (constantI S1 32 99999#32)))))
    (constantI S_ 1 1#1) reducesTo_S50000x1_S50000_d1 h_S_

/-- Every counting word does. -/
theorem inRange_at {w : IVec S50000x1 32} (hw : ∀ i : Fin 50000, w (ix2 i (0 : Fin 1)) = BitVec.ofNat 32 i.val)
    (i : Fin 50000) : inRange w (ix1 i) = 1#1 := by
  have hi := i.isLt
  pointwise [inRange]
  refine (fold_and_iff _ _).2 fun k _ => ?_
  obtain rfl : k = 0 := Subsingleton.elim _ _
  rw [hw i, WordCmp.cmpi_sge_ofNat (by omega) (by norm_num), WordCmp.cmpi_sle_ofNat (by omega) (by norm_num),
    decide_eq_true (Nat.zero_le _), decide_eq_true (show i.val ≤ 99999 by omega)]
  rfl

/-- A counting word read as a signed integer. -/
theorem signed_at {w : IVec S50000x1 32} (hw : ∀ i : Fin 50000, w (ix2 i (0 : Fin 1)) = BitVec.ofNat 32 i.val)
    (i : Fin 50000) : (w (ix2 i (0 : Fin 1))).toInt = i.val := by
  rw [hw i]
  exact WordCmp.toInt_ofNat_of_lt (by have := i.isLt; norm_num; omega)

/-! ## The gather -/

/-- The gather of rows. -/
abbrev rowsOut := gather_S100000x128_S50000x1_S50000x128_1_0_n_n_0_1_1128

/-- Row `i` of the result is addressed by word `i`. -/
theorem rowsOut_word (i : Fin 50000) (k : Fin 128) :
    rowsOut.siIdx (ix2 i k) ⟨0, by decide⟩ = ix2 i (0 : Fin 1) := by
  funext b
  match b with
  | ⟨0, _⟩ => rfl
  | ⟨1, _⟩ => rfl

/-- The gather at counting words takes row `i` for its row `i`. -/
theorem gather_at {w : IVec S50000x1 32} (hw : ∀ i : Fin 50000, w (ix2 i (0 : Fin 1)) = BitVec.ofNat 32 i.val)
    (h : Vec Ideal S100000x128 .f32) (i : Fin 50000) (k : Fin 128) (R : Fin 100000) (hR : R.val = i.val) :
    Host.gather rowsOut h w (ix2 i k) = h (ix2 R k) := by
  have hi := i.isLt
  refine congrArg h (funext fun a => Fin.ext ?_)
  match a with
  | ⟨0, _⟩ =>
    show min (w (rowsOut.siIdx (ix2 i k) ⟨0, by decide⟩)).toInt.toNat (100000 - 1) + 0 + 0 = R.val
    rw [rowsOut_word, signed_at hw, hR, Int.toNat_natCast]
    omega
  | ⟨1, _⟩ => show 0 + 0 + k.val = k.val; omega

/-! ## The scatter -/

/-- The scatter of rows. -/
abbrev rowsIn := scatter_S100000x128_S50000x1_S50000x128_1_0_0_1

/-- Update row `i` is addressed by word `i`. -/
theorem rowsIn_word (i : Fin 50000) (k : Fin 128) :
    rowsIn.siIdx (ix2 i k) ⟨0, by decide⟩ = ix2 i (0 : Fin 1) := by
  funext b
  match b with
  | ⟨0, _⟩ => rfl
  | ⟨1, _⟩ => rfl

/-- At counting words, update row `i` lands at row `i`. -/
theorem lands_at {w : IVec S50000x1 32} (hw : ∀ i : Fin 50000, w (ix2 i (0 : Fin 1)) = BitVec.ofNat 32 i.val)
    (i : Fin 50000) (k : Fin 128) (R : Fin 100000) (hR : R.val = i.val) :
    rowsIn.resultIdx? (ix2 i k) w = some (ix2 R k) := by
  have hi := i.isLt
  have hk := k.isLt
  have row : rowsIn.start (ix2 i k) w 0 + rowsIn.window (ix2 i k) 0 = i.val := by
    show (w (rowsIn.siIdx (ix2 i k) ⟨0, by decide⟩)).toInt + ((0 : Nat) : Int) = i.val
    rw [rowsIn_word, signed_at hw]
    omega
  have col : rowsIn.start (ix2 i k) w 1 + rowsIn.window (ix2 i k) 1 = k.val := by
    show (0 : Int) + (k.val : Int) = k.val
    omega
  have inside : ∀ a, 0 ≤ rowsIn.start (ix2 i k) w a + rowsIn.window (ix2 i k) a
      ∧ rowsIn.start (ix2 i k) w a + rowsIn.window (ix2 i k) a < S100000x128.size a := fun a => by
    match a with
    | ⟨0, _⟩ => exact ⟨le_of_le_of_eq (Int.natCast_nonneg _) row.symm, lt_of_eq_of_lt row (Int.ofNat_lt.2 (Nat.lt_trans hi (show 50000 < 100000 by decide)))⟩
    | ⟨1, _⟩ => exact ⟨le_of_le_of_eq (Int.natCast_nonneg _) col.symm, lt_of_eq_of_lt col (Int.ofNat_lt.2 hk)⟩
  unfold ScatterDims.resultIdx?
  rw [dif_pos inside]
  refine congrArg some (funext fun a => Fin.ext ?_)
  match a with
  | ⟨0, _⟩ => show (rowsIn.start (ix2 i k) w 0 + rowsIn.window (ix2 i k) 0).toNat = R.val; rw [row, hR]; rfl
  | ⟨1, _⟩ => show (rowsIn.start (ix2 i k) w 1 + rowsIn.window (ix2 i k) 1).toNat = k.val; rw [col]; rfl

/-- The scatter at counting words, on one of the first 50000 rows: the update's row. -/
theorem scatter_of_lt {w : IVec S50000x1 32} (hw : ∀ i : Fin 50000, w (ix2 i (0 : Fin 1)) = BitVec.ofNat 32 i.val)
    (h : Vec Ideal S100000x128 .f32) (upd : Vec Ideal S50000x128 .f32) (R : Fin 100000) (k : Fin 128)
    (hlt : R.val < 50000) :
    Host.scatter rowsIn (fun _ b => b) h w upd (ix2 R k) = upd (ix2 ⟨R.val, hlt⟩ k) := by
  refine Routing.scatter_set_hit rowsIn h w upd (ix2 R k) _ (fun y hy => ?_) (ix2 ⟨R.val, hlt⟩ k)
    (lands_at hw ⟨R.val, hlt⟩ k R rfl)
  have hb := (y 0).isLt
  rw [eq_ix2 (n0 := 50000) (n1 := 128) y] at hy ⊢
  rw [lands_at hw (y 0) (y 1) ⟨(y 0).val, Nat.lt_trans hb (by decide)⟩ rfl] at hy
  have e := Option.some.inj hy
  have e0 : (y 0).val = R.val := congrArg Fin.val (congrFun e 0)
  have e1 : y 1 = k := congrFun e 1
  exact congrArg upd (congrArg₂ ix2 (Fin.ext e0) e1)

/-- And on a later row: the row as it was. -/
theorem scatter_of_ge {w : IVec S50000x1 32} (hw : ∀ i : Fin 50000, w (ix2 i (0 : Fin 1)) = BitVec.ofNat 32 i.val)
    (h : Vec Ideal S100000x128 .f32) (upd : Vec Ideal S50000x128 .f32) (R : Fin 100000) (k : Fin 128)
    (hge : ¬R.val < 50000) : Host.scatter rowsIn (fun _ b => b) h w upd (ix2 R k) = h (ix2 R k) := by
  refine Routing.scatter_set_miss rowsIn h w upd (ix2 R k) fun y hy => ?_
  have hb : (y 0).val < 50000 := (y 0).isLt
  rw [eq_ix2 (n0 := 50000) (n1 := 128) y, lands_at hw (y 0) (y 1) ⟨(y 0).val, Nat.lt_trans hb (by decide)⟩ rfl] at hy
  have e0 : (y 0).val = R.val := congrArg Fin.val (congrFun (Option.some.inj hy) 0)
  exact hge (e0 ▸ hb)

end Cert.Proof.Unpool

end
-- ==== Proof.Reference.lean ====
/-
  The reference at the ideal values: it runs, leaves its arguments and every counter as they were, and where the index
  array holds 0, 1, 2, … its result is `unpooled` of the arguments.
-/
module

public import proofs.«01_k».proof.Proof.Moves
public import proofs.«01_k».proof.Proof.Rows
public import proofs.«01_k».proof.Proof.Gen.ReferenceIdeal.Run
public import proofs.«01_k».proof.Defs
public import Idealize.ShloMosaic.Lib.Quiescent

@[expose] public section

noncomputable section

namespace Cert.Proof.Unpool

open Cert.ReferenceIdeal Cert.ReferenceIdeal.Gen
open Idealize.ShloMosaic Idealize.ShloMosaic.TcCoe Idealize.ShloMosaic.Tactic Idealize.SL.Sem

/-! ## The frame -/

/-- THE REFERENCE'S FRAME: it runs to its end without a fault and leaves its seven arguments as they were; it has no
    semaphore, so no counter can be other than zero. -/
theorem reference_frame : Cert.quiescent_ReferenceIdeal := fun m g _ =>
  (θ_run (Cert.ReferenceIdeal.defs (F := Ideal)) _ _).mono
    (fun r h => ⟨fun c => (h c).2, sem_eq_zero_of_no_sems rfl r.2⟩) (Cert.ReferenceIdeal.Value.run (F := Ideal) m g)

/-- The same under the value claim's precondition, which the frame does not use. -/
theorem reference_frame_pre : Cert.quiescent_ReferenceIdeal_pre_idxs_pre := fun m g _ =>
  reference_frame m g trivial

/-! ## The value -/

section Value

variable (h : Vec Ideal S100000x128 .f32) (idx : IVec S50000 32) (sub : Vec Ideal S50000x128 .f32)
  (w1 : Vec Ideal S128x128 .f32) (b1 : Vec Ideal S128 .f32) (w2 : Vec Ideal S128x128 .f32) (b2 : Vec Ideal S128 .f32)

/-- The rows of `h` the words name, a word out of range giving the filler. -/
abbrev takenRows (w : IVec S50000x1 32) : Vec Ideal S50000x128 .f32 :=
  select (broadcastInDim S50000x128 ![0] bcast_S50000_S50000x128_0 (inRange w)) (Host.gather rowsOut h w)
    (broadcastInDim S50000x128 ![] bcast_S_S50000x128 (constant (F := Ideal) S_ .f32 0x7FC00000#32))

/-- Rows times transposed weights. -/
abbrev times (x : Vec Ideal S50000x128 .f32) (w : Vec Ideal S128x128 .f32) : Vec Ideal S50000x128 .f32 :=
  Host.dotGeneral (F := Ideal) (φ₁ := .f32) (φ₂ := .f32) dot_S50000x128_S128x128_S50000x128_1_0_0_1_n_n none x
    (transpose S128x128 [1, 0] w transposes_S128x128_S128x128_1_0)

/-- A bias on every row. -/
abbrev everyRow (b : Vec Ideal S128 .f32) : Vec Ideal S50000x128 .f32 :=
  broadcastInDim S50000x128 ![0, 1] bcast_S1x128_S50000x128_0_1 (broadcastInDim S1x128 ![1] bcast_S128_S1x128_1 b)

/-- The rows the reference puts back. -/
abbrev mergedRows (w : IVec S50000x1 32) : Vec Ideal S50000x128 .f32 :=
  addf (F := Ideal) (φ := .f32) (addf (F := Ideal) (φ := .f32)
    (addf (F := Ideal) (φ := .f32) (times (takenRows h w) w1) (everyRow b1)) (times sub w2)) (everyRow b2)

theorem times_at (x : Vec Ideal S50000x128 .f32) (w : Vec Ideal S128x128 .f32) (i : Fin 50000) (k : Fin 128) :
    times x w (ix2 i k) = ∑ j : Fin 128, x (ix2 i j) * w (ix2 k j) := by
  pointwise [times]

theorem everyRow_at (b : Vec Ideal S128 .f32) (i : Fin 50000) (k : Fin 128) : everyRow b (ix2 i k) = b (ix1 k) := by
  pointwise [everyRow]

theorem takenRows_at {w : IVec S50000x1 32} (hw : ∀ i : Fin 50000, w (ix2 i (0 : Fin 1)) = BitVec.ofNat 32 i.val)
    (i : Fin 50000) (k : Fin 128) (R : Fin 100000) (hR : R.val = i.val) : takenRows h w (ix2 i k) = h (ix2 R k) := by
  have e : broadcastInDim S50000x128 ![0] bcast_S50000_S50000x128_0 (inRange w) (ix2 i k) = inRange w (ix1 i) := by
    generalize inRange w = v
    pointwise
  show Scalar.select (broadcastInDim S50000x128 ![0] bcast_S50000_S50000x128_0 (inRange w) (ix2 i k))
    (Host.gather rowsOut h w (ix2 i k)) _ = _
  rw [e, inRange_at hw, gather_at hw h i k R hR]
  rfl

/-- THE REFERENCE'S VALUE: at a counting index array the rows put back are the first 50000, each the sum the kernel
    makes in another order. -/
theorem reference_eq (hc : Counts idx) :
    Host.scatter rowsIn (fun _ b => b) h (rowWords idx) (mergedRows h sub w1 b1 w2 b2 (rowWords idx))
      = unpooled h sub w1 b1 w2 b2 := by
  have hw := rowWords_at hc
  generalize rowWords idx = w at hw ⊢
  funext y
  rw [eq_ix2 (n0 := 100000) (n1 := 128) y]
  obtain ⟨R, hR⟩ : ∃ R : Fin 100000, R = y 0 := ⟨_, rfl⟩
  obtain ⟨k, hk⟩ : ∃ k : Fin 128, k = y 1 := ⟨_, rfl⟩
  rw [← hR, ← hk]
  by_cases hlt : R.val < 50000
  · refine (scatter_of_lt hw h _ R k hlt).trans (Eq.trans ?_ (unpooled_of_lt h sub w1 b1 w2 b2 R k hlt).symm)
    show ((times (takenRows h w) w1 (ix2 ⟨R.val, hlt⟩ k) + everyRow b1 (ix2 ⟨R.val, hlt⟩ k) : EReal)
      + times sub w2 (ix2 ⟨R.val, hlt⟩ k)) + everyRow b2 (ix2 ⟨R.val, hlt⟩ k) = _
    rw [times_at, times_at, everyRow_at, everyRow_at]
    simp only [takenRows_at h hw ⟨R.val, hlt⟩ _ R rfl]
    exact (congrArg (· + b2 (ix1 k)) (add_right_comm _ _ _)).trans (add_assoc _ _ _)
  · exact (scatter_of_ge hw h _ R k hlt).trans (unpooled_of_ge h sub w1 b1 w2 b2 R k hlt).symm

end Value

end Cert.Proof.Unpool

end
-- ==== Proof.Equal.lean ====
/-
  The value claim: from memories that agree on the arguments, with the index array holding 0, 1, 2, …, the kernel and
  the reference both end with `unpooled` of the arguments in their result array, and with their arguments unchanged.
-/
module

public import proofs.«01_k».proof.Proof.Exact
public import proofs.«01_k».proof.Proof.Reference

@[expose] public section

noncomputable section

namespace Cert.Proof.Unpool

open Idealize.ShloMosaic Idealize.ShloMosaic.TcCoe Idealize.SL.Sem

/-- The reference's result array on core `c`, its run read back, is `unpooled` of arrays equal to its arguments. -/
theorem reference_out {h h' : Vec Ideal Cert.ReferenceIdeal.S100000x128 .f32} {idx idx' : IVec Cert.ReferenceIdeal.S50000 32}
    {sub sub' : Vec Ideal Cert.ReferenceIdeal.S50000x128 .f32} {w1 w1' w2 w2' : Vec Ideal Cert.ReferenceIdeal.S128x128 .f32}
    {b1 b1' b2 b2' : Vec Ideal Cert.ReferenceIdeal.S128 .f32} (hc : Counts idx)
    (e0 : h' = h) (e1 : idx' = idx) (e2 : sub' = sub) (e3 : w1' = w1) (e4 : b1' = b1) (e5 : w2' = w2) (e6 : b2' = b2) :
    Host.scatter rowsIn (fun _ b => b) h' (rowWords idx') (mergedRows h' sub' w1' b1' w2' b2' (rowWords idx'))
      = unpooled h sub w1 b1 w2 b2 := by
  subst e0 e1 e2 e3 e4 e5 e6
  exact reference_eq h' idx' sub' w1' b1' w2' b2' hc

/-- THE VALUE CLAIM: kernel and reference end with equal results at the ideal values, every row of the result compared. -/
theorem values_equal : Cert.algebraic_KernelIdeal_ReferenceIdeal_pre_idxs_pre := fun m g m' g' hpre hargs =>
  ⟨fun c => result m c, kernel_value m g,
    (θ_run (Cert.ReferenceIdeal.defs (F := Ideal)) _ _).mono (fun _ hr c =>
      ⟨(hr c).1.trans (by
        obtain ⟨e0, e1, e2, e3, e4, e5, e6⟩ := hargs c
        exact reference_out (counts_of_pre _ _ _ _ _ _ _ (hpre c)) e0 e1 e2 e3 e4 e5 e6), (hr c).2⟩)
      (Cert.ReferenceIdeal.Value.run (F := Ideal) m' g')⟩

end Cert.Proof.Unpool

end
-- ==== Proof.lean ====
/-
  The certificate: the kernel at the machine's floats and at the ideal values, and the reference, run to their ends
  and leave their arguments and counters as they were (Printed.lean, Reference.lean); the kernel read at the ideal
  values is its own text; and its result is the reference's (Equal.lean).
-/
module

public import proofs.«01_k».proof.Defs
public import proofs.«01_k».proof.Proof.Printed
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_idxs_pre

@[expose] public section

noncomputable section

namespace Cert.Proof

open Cert.Proof.Unpool

/-- Every claim of the certificate: the three frames (two of them also under the value claim's precondition), that the
    kernel read at the ideal values is the kernel's own text, and that its result is the reference's. -/
theorem claim : Cert.Claim := ⟨Cert.Kernel.Gen.facts, Cert.KernelIdeal.Gen.facts, Cert.ReferenceIdeal.Gen.facts,
  Cert.Pre_idxs_pre.Gen.facts, kernel_frame, ideal_frame, ideal_frame_pre, reference_frame, reference_frame_pre, trivial,
  values_equal⟩

end Cert.Proof

end
